-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S40x2x1024 Cert.KernelIdeal.S40x1x1024
  ∧ IdealRules.bf16_pair.PackStatement Cert.KernelIdeal.S40x1024
  ∧ IdealRules.bf16_pair.Statement Cert.KernelIdeal.S40x2x1024 Cert.KernelIdeal.S40x1x1024
  ∧ IdealRules.bf16_pair.PackStatement Cert.KernelIdeal.S40x128
  ∧ IdealRules.bf16_pair.Statement Cert.KernelIdeal.S40x2x128 Cert.KernelIdeal.S40x1x128
  ∧ IdealRules.bf16_pair.Statement Cert.KernelIdeal.S1x2x256 Cert.KernelIdeal.S1x1x256
  ∧ IdealRules.bf16_pair.Statement Cert.KernelIdeal.S16x256 Cert.KernelIdeal.S8x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x5120 : Shape := ⟨3, ![32, 1, 5120]⟩
abbrev S2560x55296 : Shape := ⟨2, ![2560, 55296]⟩
abbrev S40x55296 : Shape := ⟨2, ![40, 55296]⟩
abbrev S40x27648 : Shape := ⟨2, ![40, 27648]⟩
abbrev S32x5120 : Shape := ⟨2, ![32, 5120]⟩
abbrev S32x55296 : Shape := ⟨2, ![32, 55296]⟩
abbrev S2560x1024 : Shape := ⟨2, ![2560, 1024]⟩
abbrev S40x1024 : Shape := ⟨2, ![40, 1024]⟩
abbrev S40x512 : Shape := ⟨2, ![40, 512]⟩
abbrev S32x1024 : Shape := ⟨2, ![32, 1024]⟩
abbrev S40x128 : Shape := ⟨2, ![40, 128]⟩
abbrev S40x128x1 : Shape := ⟨3, ![40, 128, 1]⟩
abbrev S64x256 : Shape := ⟨2, ![64, 256]⟩
abbrev S64x1x256 : Shape := ⟨3, ![64, 1, 256]⟩
abbrev S64x2x256 : Shape := ⟨3, ![64, 2, 256]⟩
abbrev S128x256 : Shape := ⟨2, ![128, 256]⟩
abbrev S1x256 : Shape := ⟨2, ![1, 256]⟩
abbrev S8x256 : Shape := ⟨2, ![8, 256]⟩
abbrev S16x256 : Shape := ⟨2, ![16, 256]⟩
abbrev S256x256 : Shape := ⟨2, ![256, 256]⟩
abbrev S32x256 : Shape := ⟨2, ![32, 256]⟩

abbrev nBuf : Space → Nat
  | .hbm => 6
  | .vmem => 11
  | .smem => 0
  | _ => 0

abbrev bufTy : (tb : Table) → Fin (tcTables nBuf tb) → BufTy
  | .hbm, ⟨0, _⟩ => ⟨S32x1x5120, .bf16⟩
  | .hbm, ⟨1, _⟩ => ⟨S2560x55296, .i8⟩
  | .hbm, ⟨2, _⟩ => ⟨S40x55296, .bf16⟩
  | .hbm, ⟨3, _⟩ => ⟨S40x27648, .i8⟩
  | .hbm, ⟨4, _⟩ => ⟨S32x5120, .bf16⟩
  | .hbm, ⟨5, _⟩ => ⟨S32x55296, .bf16⟩
  | .local _ .vmem, ⟨0, _⟩ => ⟨S32x5120, .bf16⟩
  | .local _ .vmem, ⟨1, _⟩ => ⟨S2560x1024, .i8⟩
  | .local _ .vmem, ⟨2, _⟩ => ⟨S2560x1024, .i8⟩
  | .local _ .vmem, ⟨3, _⟩ => ⟨S40x1024, .bf16⟩
  | .local _ .vmem, ⟨4, _⟩ => ⟨S40x1024, .bf16⟩
  | .local _ .vmem, ⟨5, _⟩ => ⟨S40x512, .i8⟩
  | .local _ .vmem, ⟨6, _⟩ => ⟨S40x512, .i8⟩
  | .local _ .vmem, ⟨7, _⟩ => ⟨S32x1024, .bf16⟩
  | .local _ .vmem, ⟨8, _⟩ => ⟨S32x1024, .bf16⟩
  | .local _ .vmem, ⟨9, _⟩ => ⟨S40x1024, .i32⟩
  | .local _ .vmem, ⟨10, _⟩ => ⟨S40x1024, .i32⟩
  | _, _ => ⟨S32x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![54], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S40x2x1024 : Shape := ⟨3, ![40, 2, 1024]⟩
abbrev S40x1x1024 : Shape := ⟨3, ![40, 1, 1024]⟩
abbrev S40x2x128 : Shape := ⟨3, ![40, 2, 128]⟩
abbrev S40x1x128 : Shape := ⟨3, ![40, 1, 128]⟩
abbrev S1x2x256 : Shape := ⟨3, ![1, 2, 256]⟩
abbrev S1x1x256 : Shape := ⟨3, ![1, 1, 256]⟩
  | .local _ .vmem, ⟨9, _⟩ => ⟨S40x2x1024, .bf16⟩
  | .local _ .vmem, ⟨10, _⟩ => ⟨S40x2x1024, .bf16⟩
variable {F : FTy → Type} [FloatOps F]
-- ==== ReferenceIdeal.lean ====
abbrev S32x1x5120 : Shape := ⟨3, ![32, 1, 5120]⟩
abbrev S2560x55296 : Shape := ⟨2, ![2560, 55296]⟩
abbrev S40x55296 : Shape := ⟨2, ![40, 55296]⟩
abbrev S40x27648 : Shape := ⟨2, ![40, 27648]⟩
abbrev S_ : Shape := ⟨0, ![]⟩
abbrev S40x27648x1 : Shape := ⟨3, ![40, 27648, 1]⟩
abbrev S40x27648x2 : Shape := ⟨3, ![40, 27648, 2]⟩
abbrev S40x1x55296 : Shape := ⟨3, ![40, 1, 55296]⟩
abbrev S40x64x55296 : Shape := ⟨3, ![40, 64, 55296]⟩
abbrev S32x1x2560 : Shape := ⟨3, ![32, 1, 2560]⟩
abbrev S32x1x55296 : Shape := ⟨3, ![32, 1, 55296]⟩
abbrev S32x55296 : Shape := ⟨2, ![32, 55296]⟩

abbrev nBuf : Space → Nat
  | .hbm => 46
  | .vmem => 0
  | .smem => 0
  | _ => 0

abbrev bufTy : (tb : Table) → Fin (tcTables nBuf tb) → BufTy
  | .hbm, ⟨0, _⟩ => ⟨S32x1x5120, .bf16⟩
  | .hbm, ⟨1, _⟩ => ⟨S2560x55296, .i8⟩
  | .hbm, ⟨2, _⟩ => ⟨S40x55296, .bf16⟩
  | .hbm, ⟨3, _⟩ => ⟨S40x27648, .i8⟩
  | .hbm, ⟨4, _⟩ => ⟨S40x27648, .i32⟩
  | .hbm, ⟨5, _⟩ => ⟨S2560x55296, .i32⟩
  | .hbm, ⟨6, _⟩ => ⟨S_, .i32⟩
  | .hbm, ⟨7, _⟩ => ⟨S40x27648, .i32⟩
  | .hbm, ⟨8, _⟩ => ⟨S40x27648, .i32⟩
  | .hbm, ⟨9, _⟩ => ⟨S_, .i32⟩
  | .hbm, ⟨10, _⟩ => ⟨S40x27648, .i32⟩
  | .hbm, ⟨11, _⟩ => ⟨S40x27648, .i32⟩
  | .hbm, ⟨12, _⟩ => ⟨S40x27648x1, .i32⟩
  | .hbm, ⟨13, _⟩ => ⟨S40x27648x1, .i32⟩
  | .hbm, ⟨14, _⟩ => ⟨S40x27648x2, .i32⟩
  | .hbm, ⟨15, _⟩ => ⟨S40x55296, .i32⟩
  | .hbm, ⟨16, _⟩ => ⟨S40x55296, .bf16⟩
  | .hbm, ⟨17, _⟩ => ⟨S40x1x55296, .bf16⟩
  | .hbm, ⟨18, _⟩ => ⟨S40x1x55296, .bf16⟩
  | .hbm, ⟨19, _⟩ => ⟨S_, .i32⟩
  | .hbm, ⟨20, _⟩ => ⟨S2560x55296, .i32⟩
  | .hbm, ⟨21, _⟩ => ⟨S2560x55296, .i32⟩
  | .hbm, ⟨22, _⟩ => ⟨S2560x55296, .bf16⟩
  | .hbm, ⟨23, _⟩ => ⟨S40x64x55296, .bf16⟩
  | .hbm, ⟨24, _⟩ => ⟨S40x64x55296, .bf16⟩
  | .hbm, ⟨25, _⟩ => ⟨S40x64x55296, .bf16⟩
  | .hbm, ⟨26, _⟩ => ⟨S40x64x55296, .bf16⟩
  | .hbm, ⟨27, _⟩ => ⟨S40x64x55296, .bf16⟩
  | .hbm, ⟨28, _⟩ => ⟨S2560x55296, .bf16⟩
  | .hbm, ⟨29, _⟩ => ⟨S_, .i32⟩
  | .hbm, ⟨30, _⟩ => ⟨S2560x55296, .i32⟩
  | .hbm, ⟨31, _⟩ => ⟨S2560x55296, .i32⟩
  | .hbm, ⟨32, _⟩ => ⟨S2560x55296, .bf16⟩
  | .hbm, ⟨33, _⟩ => ⟨S40x64x55296, .bf16⟩
  | .hbm, ⟨34, _⟩ => ⟨S40x64x55296, .bf16⟩
  | .hbm, ⟨35, _⟩ => ⟨S40x64x55296, .bf16⟩
  | .hbm, ⟨36, _⟩ => ⟨S40x64x55296, .bf16⟩
  | .hbm, ⟨37, _⟩ => ⟨S40x64x55296, .bf16⟩
  | .hbm, ⟨38, _⟩ => ⟨S2560x55296, .bf16⟩
  | .hbm, ⟨39, _⟩ => ⟨S32x1x2560, .bf16⟩
  | .hbm, ⟨40, _⟩ => ⟨S32x1x55296, .f32⟩
  | .hbm, ⟨41, _⟩ => ⟨S32x1x2560, .bf16⟩
  | .hbm, ⟨42, _⟩ => ⟨S32x1x55296, .f32⟩
  | .hbm, ⟨43, _⟩ => ⟨S32x1x55296, .f32⟩
  | .hbm, ⟨44, _⟩ => ⟨S32x1x55296, .bf16⟩
  | .hbm, ⟨45, _⟩ => ⟨S32x55296, .bf16⟩
  | _, _ => ⟨S32x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Proof.Claims.lean ====
/- The claims that ask for no arithmetic: each of the three programs runs and leaves its arguments as they were, and each
   rewrite between the kernel and its idealization is an instance of a statement proved in the library. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Bf16PairInverse
public import Idealize.ShloMosaic.Lib.Quiescent

@[expose] public section

noncomputable section

open Idealize.ShloMosaic Idealize.SL.Sem

namespace Cert.Proof

/-- The kernel runs, on floats as they are. -/
theorem frame_p : Cert.quiescent_Kernel := fun m ρ _ => Cert.Kernel.Gen.frame m ρ

/-- The idealized kernel runs. -/
theorem frame_pi : Cert.quiescent_KernelIdeal := fun m ρ _ => Cert.KernelIdeal.Gen.frame m ρ

/-- The reference runs. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two scratches of words kept as pairs of bf16 rows, the packing of a rounded value with itself at the two shapes it
    occurs, and the words read back as rows. -/
theorem preserves : Cert.preserves_Kernel_KernelIdeal :=
  open Cert.KernelIdeal IdealRules.bf16_pair in
  ⟨bufferStatement S40x2x1024 S40x1x1024, packStatement S40x1024, statement S40x2x1024 S40x1x1024, packStatement S40x128,
    statement S40x2x128 S40x1x128, statement S1x2x256 S1x1x256, statement S16x256 S8x256⟩

end Cert.Proof

end
-- ==== Proof.Body.lean ====
/- What one grid point of the kernel leaves in its output block, said once for every tile: the two scratch arrays the
   point fills first, the weight tile of one group, the product of one step, and the running sum of the twenty steps.
   The definitions are for any float values; `outsAt0_eq` says that the run of the generated certificate leaves exactly
   the four column tiles `outTile 0 .. outTile 3`. -/
module

public import proofs.«01_k».proof.Proof.Gen.KernelIdeal.Value
public import Idealize.ShloMosaic.Lib.Pipeline.ValueKit

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- Two equal bf16 halves under a unit axis: what a scratch of pairs is given for a 40 x 128 block `v`. -/
def pairRows (v : FVec F S40x128 .bf16) : Vec F S40x2x128 .bf16 :=
  interleaveRows S40x2x128 (shapeCast S40x1x128 v shapeCasts_S40x128_S40x1x128)
    (shapeCast S40x1x128 v shapeCasts_S40x128_S40x1x128) bitcasts_S40x2x128_w16_S40x1x128_w32

/-- The lane index whose byte a column of half `h` (0 or 64) reads: half the lane number, plus `h`. -/
def lanes (h : BitVec 32) : IVec S40x128 32 :=
  addi (shrsi (iota .tc S40x128 32 [1] iota_S40x128_d1_w32) (broadcast S40x128 1#32)) (broadcast S40x128 h)

/-- The same after the wrap of negative indices, through a unit axis and back. -/
def lanesIdx (h : BitVec 32) : IVec S40x128 32 :=
  shapeCast S40x128 (shapeCast S40x128x1
    (select (cmpi .slt (lanes h) (broadcast S40x128 0#32)) (addi (lanes h) (broadcast S40x128 128#32)) (lanes h))
    shapeCasts_S40x128_S40x128x1) shapeCasts_S40x128x1_S40x128

/-- The zero points of 128 columns, from the 128 packed bytes `v` of their 256-column block and the half `h`. -/
def zeroCols (v : Vec F S40x128 .i8) (h : BitVec 32) : FVec F S40x128 .bf16 :=
  truncf .bf16 (sitofp .f32 (andi (shrui (dynamicGather 1 (extui 32 v natLt_8_32) (lanesIdx h))
    (muli (andi (iota .tc S40x128 32 [1] iota_S40x128_d1_w32) (broadcast S40x128 1#32)) (broadcast S40x128 4#32)))
    (broadcast S40x128 15#32)))

/-- The scratch of zero points after the point's eight stores (last first). -/
def zScr (z : Vec F S40x512 .i8) : Vec F S40x2x1024 .bf16 :=
  View.canon [
    ⟨Rect.unit ![0, 0, 896] S40x2x128.size inb_S40x2x1024_S40x2x128_0_0_896, pairRows (zeroCols (View.ld z (Rect.unit ![0, 384] S40x128.size inb_S40x512_S40x128_0_384)) 64#32)⟩,
    ⟨Rect.unit ![0, 0, 768] S40x2x128.size inb_S40x2x1024_S40x2x128_0_0_768, pairRows (zeroCols (View.ld z (Rect.unit ![0, 384] S40x128.size inb_S40x512_S40x128_0_384)) 0#32)⟩,
    ⟨Rect.unit ![0, 0, 640] S40x2x128.size inb_S40x2x1024_S40x2x128_0_0_640, pairRows (zeroCols (View.ld z (Rect.unit ![0, 256] S40x128.size inb_S40x512_S40x128_0_256)) 64#32)⟩,
    ⟨Rect.unit ![0, 0, 512] S40x2x128.size inb_S40x2x1024_S40x2x128_0_0_512, pairRows (zeroCols (View.ld z (Rect.unit ![0, 256] S40x128.size inb_S40x512_S40x128_0_256)) 0#32)⟩,
    ⟨Rect.unit ![0, 0, 384] S40x2x128.size inb_S40x2x1024_S40x2x128_0_0_384, pairRows (zeroCols (View.ld z (Rect.unit ![0, 128] S40x128.size inb_S40x512_S40x128_0_128)) 64#32)⟩,
    ⟨Rect.unit ![0, 0, 256] S40x2x128.size inb_S40x2x1024_S40x2x128_0_0_256, pairRows (zeroCols (View.ld z (Rect.unit ![0, 128] S40x128.size inb_S40x512_S40x128_0_128)) 0#32)⟩,
    ⟨Rect.unit ![0, 0, 128] S40x2x128.size inb_S40x2x1024_S40x2x128_0_0_128, pairRows (zeroCols (View.ld z (Rect.unit ![0, 0] S40x128.size inb_S40x512_S40x128_0_0)) 64#32)⟩,
    ⟨Rect.unit ![0, 0, 0] S40x2x128.size inb_S40x2x1024_S40x2x128_0_0_0, pairRows (zeroCols (View.ld z (Rect.unit ![0, 0] S40x128.size inb_S40x512_S40x128_0_0)) 0#32)⟩]

/-- The scratch of scales after the point's one store: each scale twice, as the two rows of a pair. -/
def sScr (s : Vec F S40x1024 .bf16) : Vec F S40x2x1024 .bf16 :=
  View.canon [⟨Rect.unit ![0, 0, 0] S40x2x1024.size inb_S40x2x1024_S40x2x1024_0_0_0,
    k0_pay2 (View.ld s (Rect.unit ![0, 0] S40x1024.size inb_S40x1024_S40x1024_0_0))⟩]

/-- A row stacked eight times. -/
def rows8 (v : FVec F S1x256 .bf16) : FVec F S8x256 .bf16 :=
  concatenate S8x256 0 [⟨S1x256, v⟩, ⟨S1x256, v⟩, ⟨S1x256, v⟩, ⟨S1x256, v⟩, ⟨S1x256, v⟩, ⟨S1x256, v⟩, ⟨S1x256, v⟩, ⟨S1x256, v⟩]
    concatenates_S1x256_S1x256_S1x256_S1x256_S1x256_S1x256_S1x256_S1x256_S8x256_d0

/-- One row of pairs as sixteen rows: eight copies of its words, read as bf16 rows. -/
def rows16 (raw : Vec F S1x2x256 .bf16) : FVec F S16x256 .bf16 :=
  interleaveRows S16x256
    (rows8 (shapeCast S1x256 (rowsOfParity 0 S1x1x256 raw bitcasts_S1x2x256_w16_S1x1x256_w32) shapeCasts_S1x1x256_S1x256))
    (rows8 (shapeCast S1x256 (rowsOfParity 1 S1x1x256 raw bitcasts_S1x2x256_w16_S1x1x256_w32) shapeCasts_S1x1x256_S1x256))
    bitcasts_S16x256_w16_S8x256_w32

/-- One row of pairs as 128 rows. -/
def rows128 (raw : Vec F S1x2x256 .bf16) : FVec F S128x256 .bf16 :=
  concatenate S128x256 0 [⟨S16x256, rows16 raw⟩, ⟨S16x256, rows16 raw⟩, ⟨S16x256, rows16 raw⟩, ⟨S16x256, rows16 raw⟩,
      ⟨S16x256, rows16 raw⟩, ⟨S16x256, rows16 raw⟩, ⟨S16x256, rows16 raw⟩, ⟨S16x256, rows16 raw⟩]
    concatenates_S16x256_S16x256_S16x256_S16x256_S16x256_S16x256_S16x256_S16x256_S128x256_d0

/-- The 128 rows of four-bit codes of 64 packed rows: row `2 i` the low halves of bytes row `i`, row `2 i + 1` the high ones. -/
def codes (p : Vec F S64x256 .i8) : FVec F S128x256 .bf16 :=
  sitofp .bf16 (shapeCast S128x256 (concatenate S64x2x256 1
    [⟨S64x1x256, shapeCast S64x1x256 (andi (extui 32 p natLt_8_32) (broadcast S64x256 15#32)) shapeCasts_S64x256_S64x1x256⟩,
     ⟨S64x1x256, shapeCast S64x1x256 (shrui (extui 32 p natLt_8_32) (broadcast S64x256 4#32)) shapeCasts_S64x256_S64x1x256⟩]
    concatenates_S64x1x256_S64x1x256_S64x2x256_d1) shapeCasts_S64x2x256_S128x256)

theorem inb_w (g n : ℕ) (hg : g < 40) (hn : n < 4) : ∀ a, (![64 * g, 256 * n] : Fin 2 → ℕ) a + S64x256.size a ≤ S2560x1024.size a := by
  intro a; fin_cases a <;> simp [S64x256, S2560x1024] <;> omega

theorem inb_p (g n : ℕ) (hg : g < 40) (hn : n < 4) : ∀ a, (![g, 0, 256 * n] : Fin 3 → ℕ) a + S1x2x256.size a ≤ S40x2x1024.size a := by
  intro a; fin_cases a <;> simp [S1x2x256, S40x2x1024] <;> omega

theorem inb_x (k : ℕ) (hk : k < 20) : ∀ a, (![0, 256 * k] : Fin 2 → ℕ) a + S32x256.size a ≤ S32x5120.size a := by
  intro a; fin_cases a <;> simp [S32x256, S32x5120] <;> omega

/-- The dequantized weights of group `g` in the columns of tile `n`: (code - zero point) * scale. -/
def group (w : Vec F S2560x1024 .i8) (S Z : Vec F S40x2x1024 .bf16) (n g : ℕ) (hn : n < 4) (hg : g < 40) : FVec F S128x256 .bf16 :=
  mulf (subf (codes (View.ld w (Rect.unit ![64 * g, 256 * n] S64x256.size (inb_w g n hg hn))))
      (rows128 (View.ld Z (Rect.unit ![g, 0, 256 * n] S1x2x256.size (inb_p g n hg hn)))))
    (rows128 (View.ld S (Rect.unit ![g, 0, 256 * n] S1x2x256.size (inb_p g n hg hn))))

/-- The product of step `k`: 256 columns of `x` by the weights of groups `2 k` and `2 k + 1`. -/
def prod (x : Vec F S32x5120 .bf16) (w : Vec F S2560x1024 .i8) (S Z : Vec F S40x2x1024 .bf16) (n k : ℕ) (hn : n < 4) (hk : k < 20) :
    FVec F S32x256 .f32 :=
  matmul dot_S32x256_S256x256_S32x256_1_0_0_1_n_n none
    (shapeCast S32x256 (View.ld x (Rect.unit ![0, 256 * k] S32x256.size (inb_x k hk))) shapeCasts_S32x256_S32x256)
    (concatenate S256x256 0 [⟨S128x256, group w S Z n (2 * k) hn (by omega)⟩, ⟨S128x256, group w S Z n (2 * k + 1) hn (by omega)⟩]
      concatenates_S128x256_S128x256_S256x256_d0)
    (constant S32x256 .f32 0x00000000#32)

/-- The running sum after step `k`. -/
def acc (x : Vec F S32x5120 .bf16) (w : Vec F S2560x1024 .i8) (S Z : Vec F S40x2x1024 .bf16) (n : ℕ) (hn : n < 4) :
    (k : ℕ) → k < 20 → FVec F S32x256 .f32
  | 0, h => prod x w S Z n 0 hn h
  | k + 1, h => addf (acc x w S Z n hn k (by omega)) (prod x w S Z n (k + 1) hn h)

/-- What the point stores into column tile `n` of its output block. -/
def outTile (x : Vec F S32x5120 .bf16) (w : Vec F S2560x1024 .i8) (s : Vec F S40x1024 .bf16) (z : Vec F S40x512 .i8) (n : ℕ) (hn : n < 4) :
    FVec F S32x256 .bf16 :=
  truncf .bf16 (acc x w (sScr s) (zScr z) n hn 19 (by omega)) bitsLt_bf16_f32

/-- The output block of a point: its four column tiles. -/
def outBlock (x : Vec F S32x5120 .bf16) (w : Vec F S2560x1024 .i8) (s : Vec F S40x1024 .bf16) (z : Vec F S40x512 .i8) : Vec F S32x1024 .bf16 :=
  View.canon [
    ⟨Rect.unit ![0, 768] S32x256.size inb_S32x1024_S32x256_0_768, outTile x w s z 3 (by omega)⟩,
    ⟨Rect.unit ![0, 512] S32x256.size inb_S32x1024_S32x256_0_512, outTile x w s z 2 (by omega)⟩,
    ⟨Rect.unit ![0, 256] S32x256.size inb_S32x1024_S32x256_0_256, outTile x w s z 1 (by omega)⟩,
    ⟨Rect.unit ![0, 0] S32x256.size inb_S32x1024_S32x256_0_0, outTile x w s z 0 (by omega)⟩]

end Cert.KernelIdeal.Body

end
-- ==== Proof.BodyRun.lean ====
/- The generated run of the kernel's body leaves `Body.outBlock` of the point's input blocks: the run's found stores are
   the four column tiles, by unfolding. -/
module

public import proofs.«01_k».proof.Proof.Body

@[expose] public section

set_option maxRecDepth 65536

noncomputable section

namespace Cert.KernelIdeal.Body

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- A load over stores that cover it reads the array those stores leave. -/
theorem readCov_eq_ld {sp : Space} {s : Shape} {e : EltTy} (v : View sig .tc sp s e) (L : List (View.Piece (Elt F) s e)) (r : Rect s) :
    v.readCov L r.toLoadRect = View.ld (View.canon L) r :=
  View.readCov_eq_canon' v L r.toLoadRect

theorem outsAt0_eq (c : Dev nD) (t : Fin cfg0.N) :
    outsAt0 m c t = outBlock (iblk m c 0 t) (iblk m c 1 t) (iblk m c 2 t) (iblk m c 3 t) := by
  unfold outsAt0
  frame_open
  simp only [View.read_writes_junk_eq_canon, readCov_eq_ld, View.readAt_eq_ld, Memref.IsWhole.read_unread]
  rfl

end Cert.KernelIdeal.Body

end
-- ==== Proof.Nibble.lean ====
/- The four-bit halves of a byte, as both programs take them: masks and shifts of the byte widened to a word. -/
module

public import Idealize.ShloMosaic.Lib.Pointwise

@[expose] public section

noncomputable section

namespace Cert.Proof

open Idealize.ShloMosaic

/-- Half `p` of byte `b` as a word: the low four bits for even `p`, the high four for odd `p`. -/
def half (b : BitVec 8) (p : ℕ) : BitVec 32 := if p % 2 = 0 then BitVec.ofNat 32 (b.toNat % 16) else BitVec.ofNat 32 (b.toNat / 16)

/-- The number half `p` of byte `b` stands for. -/
def nib (b : BitVec 8) (p : ℕ) : EReal := FloatOps.sitofp (F := Ideal) .bf16 (half b p)

/-- Only the parity of `p` matters. -/
theorem nib_congr (b : BitVec 8) {p p' : ℕ} (h : p % 2 = p' % 2) : nib b p = nib b p' := by
  unfold nib half; rw [h]

/-- An exact conversion does not depend on the format named. -/
theorem sitofp_f32 (x : BitVec 32) : FloatOps.sitofp (F := Ideal) .f32 x = FloatOps.sitofp (F := Ideal) .bf16 x := rfl

/-- The mask takes the low half. -/
theorem andi_eq_half (b : BitVec 8) (p : ℕ) (hp : p % 2 = 0) : IntOp.andi (BitVec.setWidth 32 b) 15#32 = half b p := by
  rw [half, if_pos hp]; revert b; decide +kernel

/-- The logical shift takes the high half. -/
theorem shrui_eq_half (b : BitVec 8) (p : ℕ) (hp : ¬p % 2 = 0) : IntOp.shrui .vector (BitVec.setWidth 32 b) 4#32 = half b p := by
  rw [half, if_neg hp]; revert b; decide +kernel

/-- So does the arithmetic shift: the widened byte is not negative. -/
theorem shrsi_eq_half (b : BitVec 8) (p : ℕ) (hp : ¬p % 2 = 0) : IntOp.shrsi .host (BitVec.setWidth 32 b) 4#32 = half b p := by
  rw [half, if_neg hp]; revert b; decide +kernel

/-- The shift amount of lane `l`: none for an even lane, four for an odd one. -/
theorem amount : ∀ l : Fin 128, IntOp.muli (IntOp.andi (BitVec.ofNat 32 l.val) 1#32) 4#32 = if l.val % 2 = 0 then 0#32 else 4#32 := by
  decide +kernel

/-- A shift by the lane's amount, then the mask, takes the half of the lane's parity. -/
theorem lane_eq_half (b : BitVec 8) (l : Fin 128) :
    IntOp.andi (IntOp.shrui .vector (BitVec.setWidth 32 b) (IntOp.muli (IntOp.andi (BitVec.ofNat 32 l.val) 1#32) 4#32)) 15#32
      = half b l := by
  rw [amount, half]
  split
  · revert b; decide +kernel
  · revert b; decide +kernel

end Cert.Proof

end
-- ==== Proof.TileValue.lean ====
/- The pieces of one step of the kernel, read at an index: one row of a pair scratch copied to 128 rows, the four-bit
   codes of a block of packed rows, and the zero points the two scratches are filled with. -/
module

public import proofs.«01_k».proof.Proof.Body
public import proofs.«01_k».proof.Proof.Nibble

@[expose] public section

set_option maxRecDepth 16384

noncomputable section

namespace Cert.KernelIdeal.Body

open Cert.KernelIdeal Cert.KernelIdeal.Gen Cert.Proof Idealize.ShloMosaic Idealize.ShloMosaic.TcCoe Idealize.SL.Sem

/-- Eight copies of a row: every row is that row. -/
theorem rows8_apply (v : FVec Ideal S1x256 .bf16) (r : Fin 8) (c : Fin 256) : rows8 v (ix2 r c) = v (ix2 0 c) := by
  pointwise [rows8]
  fin_vals r with hr <;> simp [hr]

/-- Sixteen rows from one row of pairs: even rows are the pair's first row, odd rows its second. -/
theorem rows16_apply (raw : Vec Ideal S1x2x256 .bf16) (r : Fin 16) (c : Fin 256) :
    rows16 raw (ix2 r c) = raw (ix3 0 ⟨r.val % 2, Nat.mod_lt _ (by omega)⟩ c) := by
  unfold rows16
  pointwise [rows8_apply]
  split <;> exact congrArg (fun p => raw (ix3 0 p c)) (Fin.ext (by simp only [Fin.val_zero, Fin.val_one]; omega))

/-- A hundred and twenty-eight rows from one row of pairs, likewise. -/
theorem rows128_apply (raw : Vec Ideal S1x2x256 .bf16) (r : Fin 128) (c : Fin 256) :
    rows128 raw (ix2 r c) = raw (ix3 0 ⟨r.val % 2, Nat.mod_lt _ (by omega)⟩ c) := by
  unfold rows128
  pointwise [rows16_apply]
  repeat' split
  all_goals exact congrArg (fun p => raw (ix3 0 p c)) (Fin.ext (by first | rfl | (dsimp only; omega)))

/-- Row `r` of the codes is half `r % 2` of packed row `r / 2`. -/
theorem codes_apply (p : Vec Ideal S64x256 .i8) (r : Fin 128) (c : Fin 256) :
    codes p (ix2 r c) = nib (p (ix2 ⟨r.val / 2, by omega⟩ c)) r := by
  pointwise [codes]
  unfold nib
  congr 1
  by_cases h : r.val % 2 < 1
  · exact (dif_pos h).trans (andi_eq_half _ _ (by omega))
  · exact (dif_neg h).trans (shrui_eq_half _ _ (by omega))

/-- The even half-block: column `l` reads byte `l / 2`. -/
theorem lanes_zero (g : Fin 40) (l : Fin 128) : lanesIdx 0#32 (ix2 g l) = BitVec.ofNat 32 (l.val / 2) := by
  pointwise [lanesIdx, lanes]
  revert l
  decide +kernel

/-- The odd half-block: column `l` reads byte `l / 2 + 64`. -/
theorem lanes_half (g : Fin 40) (l : Fin 128) : lanesIdx 64#32 (ix2 g l) = BitVec.ofNat 32 (l.val / 2 + 64) := by
  pointwise [lanesIdx, lanes]
  revert l
  decide +kernel

/-- Column `l` of the zero points is half `l % 2` of the byte it reads. -/
theorem zeroCols_apply (v : Vec Ideal S40x128 .i8) (h : BitVec 32) (q : ℕ)
    (hl : ∀ g l, lanesIdx h (ix2 g l) = BitVec.ofNat 32 (l.val / 2 + q))
    (hq : q < 65) (g : Fin 40) (l : Fin 128) :
    zeroCols v h (ix2 g l) = nib (v (ix2 g ⟨l.val / 2 + q, by have := l.isLt; omega⟩)) l := by
  pointwise [zeroCols, hl]
  have hn : (BitVec.ofNat 32 (l.val / 2 + q)).toNat % 128 = l.val / 2 + q := by
    rw [BitVec.toNat_ofNat]; omega
  refine (congrArg (FloatOps.sitofp (F := Ideal) .f32) (lane_eq_half _ l)).trans ?_
  exact congrArg (fun i => nib (v (ix2 g i)) l) (Fin.ext hn)

end Cert.KernelIdeal.Body

end
-- ==== Proof.Sums.lean ====
/- Two ways to split a sum over a range. -/
module

public import proofs.«01_k».proof.Proof.Nibble

@[expose] public section

namespace Cert.Proof

/-- A sum over a range of `2 n` is the sum over its even members plus the sum over its odd ones. -/
theorem sum_even_odd (f : ℕ → EReal) (n : ℕ) :
    ∑ i ∈ Finset.range (2 * n), f i = ∑ i ∈ Finset.range n, f (2 * i) + ∑ i ∈ Finset.range n, f (2 * i + 1) := by
  induction n with
  | zero => simp
  | succ n ih =>
    rw [show 2 * (n + 1) = 2 * n + 1 + 1 by ring, Finset.sum_range_succ, Finset.sum_range_succ, Finset.sum_range_succ, Finset.sum_range_succ, ih]
    abel

/-- A sum over 256 members is the sum of its two halves, each over `Fin 128`. -/
theorem sum_halves (f : ℕ → EReal) :
    ∑ i ∈ Finset.range 256, f i = ∑ i : Fin 128, f i.val + ∑ i : Fin 128, f (128 + i.val) := by
  rw [Fin.sum_univ_eq_sum_range (fun i => f i), Fin.sum_univ_eq_sum_range (fun i => f (128 + i))]
  exact Finset.sum_range_add f 128 128

end Cert.Proof

end
-- ==== Proof.BlockValue.lean ====
/- The output block of one grid point, read at an index: the sum over the 5120 rows of the input row times the
   dequantized weight. -/
module

public import proofs.«01_k».proof.Proof.TileValue
public import proofs.«01_k».proof.Proof.Sums

@[expose] public section

set_option maxRecDepth 16384

noncomputable section

namespace Cert.KernelIdeal.Body

open Cert.KernelIdeal Cert.KernelIdeal.Gen Cert.Proof Idealize.ShloMosaic Idealize.ShloMosaic.TcCoe Idealize.SL.Sem

/-- The scratch of scales holds, at both rows of pair `(g, c)`, the scale of group `g` and column `c`. -/
theorem sScr_apply (s : Vec Ideal S40x1024 .bf16) (g : Fin 40) (p : Fin 2) (c : Fin 1024) : sScr s (ix3 g p c) = s (ix2 g c) := by
  unfold sScr
  rw [View.canon_cons_unit_lit _ _ _ (by decide)]
  pointwise [k0_pay2]
  exact ite_self _

theorem pairRows_apply (v : FVec Ideal S40x128 .bf16) (g : Fin 40) (p : Fin 2) (l : Fin 128) : pairRows v (ix3 g p l) = v (ix2 g l) := by
  pointwise [pairRows]
  exact ite_self _

/-- What one store of the zero points puts at each index: 128 output columns read 64 byte columns, from column `o + q` on. -/
theorem piece_apply (z : Vec Ideal S40x512 .i8) (o : ℕ) (ho : ∀ a, (![0, o] : Fin 2 → ℕ) a + S40x128.size a ≤ S40x512.size a)
    (h : BitVec 32) (q : ℕ) (hl : ∀ g l, lanesIdx h (ix2 g l) = BitVec.ofNat 32 (l.val / 2 + q)) (hq : q < 65)
    (x : S40x2x128.Idx) (g : Fin 40) (c : Fin 1024) (hg : g.val = (x 0).val) (hc : c.val = 2 * (o + q) + (x 2).val) :
    pairRows (zeroCols (View.ld z (Rect.unit ![0, o] S40x128.size ho)) h) x = nib (z (ix2 g ⟨c.val / 2, by omega⟩)) c := by
  obtain ⟨a, b, l, rfl⟩ : ∃ a b l, x = ix3 a b l := ⟨x 0, x 1, x 2, eq_ix3 x⟩
  have hc : c.val = 2 * (o + q) + l.val := hc
  have ho : o + 128 ≤ 512 := ho 1
  obtain rfl : a = g := Fin.ext hg.symm
  refine (pairRows_apply _ a b l).trans ((zeroCols_apply _ h q hl hq a l).trans ?_)
  rw [nib_congr _ (show l.val % 2 = c.val % 2 by omega)]
  pointwise
  exact congrArg (fun i => nib (z (ix2 a i)) c) (Fin.ext (by dsimp only; omega))

/-- The scratch of zero points holds, at both rows of pair `(g, c)`, half `c % 2` of byte `c / 2` of group `g`. -/
theorem zScr_apply (z : Vec Ideal S40x512 .i8) (g : Fin 40) (p : Fin 2) (c : Fin 1024) :
    zScr z (ix3 g p c) = nib (z (ix2 g ⟨c.val / 2, by omega⟩)) c := by
  unfold zScr
  canon_tiles x h
  case piece0 => exact piece_apply z 384 _ _ 64 lanes_half (by omega) x g c h0 h2
  case piece1 => exact piece_apply z 384 _ _ 0 lanes_zero (by omega) x g c h0 h2
  case piece2 => exact piece_apply z 256 _ _ 64 lanes_half (by omega) x g c h0 h2
  case piece3 => exact piece_apply z 256 _ _ 0 lanes_zero (by omega) x g c h0 h2
  case piece4 => exact piece_apply z 128 _ _ 64 lanes_half (by omega) x g c h0 h2
  case piece5 => exact piece_apply z 128 _ _ 0 lanes_zero (by omega) x g c h0 h2
  case piece6 => exact piece_apply z 0 _ _ 64 lanes_half (by omega) x g c h0 h2
  case piece7 => exact piece_apply z 0 _ _ 0 lanes_zero (by omega) x g c h0 (h2.trans (by omega))

/-- The dequantized weight of row `i`, column `c` of a block: (code - zero point) * scale. -/
def wt (w : Vec Ideal S2560x1024 .i8) (s : Vec Ideal S40x1024 .bf16) (z : Vec Ideal S40x512 .i8) (i : Fin 5120) (c : Fin 1024) : EReal :=
  (nib (w (ix2 ⟨i.val / 2, by omega⟩ c)) i - nib (z (ix2 ⟨i.val / 128, by omega⟩ ⟨c.val / 2, by omega⟩)) c) * s (ix2 ⟨i.val / 128, by omega⟩ c)

theorem group_apply (w : Vec Ideal S2560x1024 .i8) (s : Vec Ideal S40x1024 .bf16) (z : Vec Ideal S40x512 .i8)
    (n g : ℕ) (hn : n < 4) (hg : g < 40) (r : Fin 128) (c : Fin 256) :
    group w (sScr s) (zScr z) n g hn hg (ix2 r c) = wt w s z ⟨128 * g + r.val, by omega⟩ ⟨256 * n + c.val, by omega⟩ := by
  unfold group
  pointwise [codes_apply, rows128_apply, sScr_apply, zScr_apply]
  have e : ∀ (i : Fin 2560) (k : Fin 40) (p : ℕ), i.val = 64 * g + r.val / 2 → k.val = g → p % 2 = r.val % 2 →
      (nib (w (ix2 ⟨64 * g + r.val / 2, by omega⟩ ⟨256 * n + c.val, by omega⟩)) r
          - nib (z (ix2 ⟨g, hg⟩ ⟨(256 * n + c.val) / 2, by omega⟩)) (256 * n + c.val)) * s (ix2 ⟨g, hg⟩ ⟨256 * n + c.val, by omega⟩)
        = (nib (w (ix2 i ⟨256 * n + c.val, by omega⟩)) p
          - nib (z (ix2 k ⟨(256 * n + c.val) / 2, by omega⟩)) (256 * n + c.val)) * s (ix2 k ⟨256 * n + c.val, by omega⟩) := by
    rintro ⟨i, hi⟩ ⟨k, hk⟩ p rfl rfl hp
    rw [nib_congr _ hp]
  exact e _ _ _ (by dsimp only; omega) (by dsimp only; omega) (by dsimp only; omega)

/-- The summand of row `i` for output row `b`, column `c`; nothing past the last row. -/
def term (x : Vec Ideal S32x5120 .bf16) (w : Vec Ideal S2560x1024 .i8) (s : Vec Ideal S40x1024 .bf16) (z : Vec Ideal S40x512 .i8)
    (b : Fin 32) (c : Fin 1024) (i : ℕ) : EReal :=
  if h : i < 5120 then x (ix2 b ⟨i, h⟩) * wt w s z ⟨i, h⟩ c else 0

theorem term_eq (x : Vec Ideal S32x5120 .bf16) (w : Vec Ideal S2560x1024 .i8) (s : Vec Ideal S40x1024 .bf16) (z : Vec Ideal S40x512 .i8)
    (b : Fin 32) (c : Fin 1024) (i : ℕ) (j k : Fin 5120) (hj : j.val = i) (hk : k.val = i) :
    term x w s z b c i = x (ix2 b j) * wt w s z k c := by
  subst hj
  obtain rfl := Fin.ext hk
  exact dif_pos k.isLt

theorem prod_apply (x : Vec Ideal S32x5120 .bf16) (w : Vec Ideal S2560x1024 .i8) (s : Vec Ideal S40x1024 .bf16) (z : Vec Ideal S40x512 .i8)
    (n k : ℕ) (hn : n < 4) (hk : k < 20) (b : Fin 32) (c : Fin 256) :
    prod x w (sScr s) (zScr z) n k hn hk (ix2 b c)
      = ∑ r ∈ Finset.range 256, term x w s z b ⟨256 * n + c.val, by omega⟩ (256 * k + r) := by
  unfold prod
  pointwise [group_apply]
  refine Eq.trans ?_ (sum_halves _).symm
  refine congrArg₂ (· + ·) (Finset.sum_congr rfl fun r _ => ?_) (Finset.sum_congr rfl fun r _ => ?_)
  all_goals exact (term_eq x w s z b _ _ _ _ (by dsimp only <;> omega) (by dsimp only <;> omega)).symm

/-- The running sum after step `k` covers the first `256 (k + 1)` rows. -/
theorem acc_apply (x : Vec Ideal S32x5120 .bf16) (w : Vec Ideal S2560x1024 .i8) (s : Vec Ideal S40x1024 .bf16) (z : Vec Ideal S40x512 .i8)
    (n : ℕ) (hn : n < 4) (b : Fin 32) (c : Fin 256) : ∀ (k : ℕ) (hk : k < 20),
    acc x w (sScr s) (zScr z) n hn k hk (ix2 b c)
      = ∑ i ∈ Finset.range (256 * (k + 1)), term x w s z b ⟨256 * n + c.val, by omega⟩ i
  | 0, hk => by
    refine (prod_apply x w s z n 0 hn hk b c).trans ?_
    exact Finset.sum_congr rfl fun r _ => congrArg _ (by omega)
  | k + 1, hk => by
    rw [show 256 * (k + 1 + 1) = 256 * (k + 1) + 256 by ring, Finset.sum_range_add]
    exact congrArg₂ (· + ·) (acc_apply x w s z n hn b c k (by omega)) (prod_apply x w s z n (k + 1) hn hk b c)

theorem outTile_apply (x : Vec Ideal S32x5120 .bf16) (w : Vec Ideal S2560x1024 .i8) (s : Vec Ideal S40x1024 .bf16) (z : Vec Ideal S40x512 .i8)
    (n : ℕ) (hn : n < 4) (y : S32x256.Idx) (b : Fin 32) (c : Fin 1024) (hb : b.val = (y 0).val) (hc : c.val = 256 * n + (y 1).val) :
    outTile x w s z n hn y = ∑ i ∈ Finset.range 5120, term x w s z b c i := by
  obtain ⟨b', c', rfl⟩ : ∃ b' c', y = ix2 b' c' := ⟨y 0, y 1, eq_ix2 y⟩
  have hc : c.val = 256 * n + c'.val := hc
  obtain rfl : b' = b := Fin.ext hb.symm
  rw [show c = ⟨256 * n + c'.val, by omega⟩ from Fin.ext hc]
  exact acc_apply x w s z n hn b' c' 19 (by omega)

/-- The output block of a point at an index. -/
theorem outBlock_apply (x : Vec Ideal S32x5120 .bf16) (w : Vec Ideal S2560x1024 .i8) (s : Vec Ideal S40x1024 .bf16) (z : Vec Ideal S40x512 .i8)
    (b : Fin 32) (c : Fin 1024) : outBlock x w s z (ix2 b c) = ∑ i ∈ Finset.range 5120, term x w s z b c i := by
  unfold outBlock
  canon_tiles y h
  case piece0 => exact outTile_apply x w s z 3 _ y b c h0 h1
  case piece1 => exact outTile_apply x w s z 2 _ y b c h0 h1
  case piece2 => exact outTile_apply x w s z 1 _ y b c h0 h1
  case piece3 => exact outTile_apply x w s z 0 _ y b c h0 (h1.trans (by omega))

end Cert.KernelIdeal.Body

end
-- ==== Proof.Product.lean ====
/- What both programs compute: each output is the sum over the 5120 input features of the input times the dequantized
   weight. -/
module

public import proofs.«01_k».proof.Proof.Gen.KernelIdeal
public import proofs.«01_k».proof.Proof.Sums

@[expose] public section

set_option maxRecDepth 16384

noncomputable section

namespace Cert.Proof

open Cert.KernelIdeal Idealize.ShloMosaic

/-- The dequantized weight of feature `i`, output `c`: (code - zero point) * scale. Byte row `i / 2` holds the code at its
    half `i % 2`; group `i / 128` has the zero point at half `c % 2` of byte column `c / 2`. -/
def weight (w : Vec Ideal S2560x55296 .i8) (s : Vec Ideal S40x55296 .bf16) (z : Vec Ideal S40x27648 .i8) (i : Fin 5120) (c : Fin 55296) :
    EReal :=
  (nib (w (ix2 ⟨i.val / 2, by omega⟩ c)) i - nib (z (ix2 ⟨i.val / 128, by omega⟩ ⟨c.val / 2, by omega⟩)) c) * s (ix2 ⟨i.val / 128, by omega⟩ c)

/-- Feature `i`'s share of output `(b, c)`; nothing past the last feature. -/
def share (x : Vec Ideal S32x1x5120 .bf16) (w : Vec Ideal S2560x55296 .i8) (s : Vec Ideal S40x55296 .bf16) (z : Vec Ideal S40x27648 .i8)
    (b : Fin 32) (c : Fin 55296) (i : ℕ) : EReal :=
  if h : i < 5120 then x (ix3 b 0 ⟨i, h⟩) * weight w s z ⟨i, h⟩ c else 0

theorem share_eq (x : Vec Ideal S32x1x5120 .bf16) (w : Vec Ideal S2560x55296 .i8) (s : Vec Ideal S40x55296 .bf16)
    (z : Vec Ideal S40x27648 .i8) (b : Fin 32) (c : Fin 55296) (i : ℕ) (h : i < 5120) :
    share x w s z b c i = x (ix3 b 0 ⟨i, h⟩) * weight w s z ⟨i, h⟩ c := dif_pos h

/-- The result array. -/
def product (x : Vec Ideal S32x1x5120 .bf16) (w : Vec Ideal S2560x55296 .i8) (s : Vec Ideal S40x55296 .bf16) (z : Vec Ideal S40x27648 .i8) :
    Vec Ideal S32x55296 .bf16 :=
  fun j => ∑ i ∈ Finset.range 5120, share x w s z (j 0) (j 1) i

end Cert.Proof

end
-- ==== Proof.ArrayValue.lean ====
/- The idealized kernel's result array: the blocks of the 54 grid points tile it, and each holds `product` at its columns. -/
module

public import proofs.«01_k».proof.Proof.BodyRun
public import proofs.«01_k».proof.Proof.BlockValue
public import proofs.«01_k».proof.Proof.Product
public import proofs.«01_k».proof.Proof.Gen.KernelIdeal.Value

@[expose] public section

set_option maxRecDepth 16384

noncomputable section

namespace Cert.KernelIdeal.Body

open Cert.KernelIdeal Cert.KernelIdeal.Gen Cert.Proof Idealize.ShloMosaic Idealize.ShloMosaic.TcCoe Idealize.SL.Sem
open Idealize.ShloMosaic.Pipeline (Dat)

variable (m : (ℓ : Loc nD τ sig) → Buf (Elt Ideal) ℓ)

/-- Every window's block index at every grid point. -/
theorem idx : ∀ t : Fin cfg0.N, win0_0.index t = ![0, 0] ∧ win0_1.index t = ![0, t.val] ∧ win0_2.index t = ![0, t.val]
    ∧ win0_3.index t = ![0, t.val] ∧ win0_4.index t = ![0, t.val] :=
  (by decide +kernel : ∀ t : Fin grid0.N, _)

theorem point_lt (t : Fin cfg0.N) : t.val < 54 := lt_of_lt_of_eq t.isLt (by decide +kernel)

/-- The point's block of `x` is the whole argument. -/
theorem iblk_x (c : Dev nD) (t : Fin cfg0.N) (b : Fin 32) (i : Fin 5120) :
    iblk m c 0 t (ix2 b i) = m ((c : Thread nD τ).loc main_arg0) (ix3 b 0 i) := by
  have e : iblk m c 0 t (ix2 b i) = V m c main_v0 (ix2 b i) := by blk_ext [iblk, idx t]
  rw [e]
  entry_read
  pointwise

/-- The point's block of packed codes is 1024 columns of the argument. -/
theorem iblk_w (c : Dev nD) (t : Fin cfg0.N) (i : Fin 2560) (j : Fin 1024) :
    iblk m c 1 t (ix2 i j) = m ((c : Thread nD τ).loc main_arg1) (ix2 i ⟨1024 * t.val + j.val, by have := point_lt t; omega⟩) := by
  blk_ext [iblk, V, idx t]

theorem iblk_s (c : Dev nD) (t : Fin cfg0.N) (i : Fin 40) (j : Fin 1024) :
    iblk m c 2 t (ix2 i j) = m ((c : Thread nD τ).loc main_arg2) (ix2 i ⟨1024 * t.val + j.val, by have := point_lt t; omega⟩) := by
  blk_ext [iblk, V, idx t]

theorem iblk_z (c : Dev nD) (t : Fin cfg0.N) (i : Fin 40) (j : Fin 512) :
    iblk m c 3 t (ix2 i j) = m ((c : Thread nD τ).loc main_arg3) (ix2 i ⟨512 * t.val + j.val, by have := point_lt t; omega⟩) := by
  blk_ext [iblk, V, idx t]

/-- The dequantized weight over a point's blocks is the argument's, at the point's columns. -/
theorem wt_eq (c : Dev nD) (t : Fin cfg0.N) (i : Fin 5120) (j : Fin 1024) :
    wt (iblk m c 1 t) (iblk m c 2 t) (iblk m c 3 t) i j
      = weight (m ((c : Thread nD τ).loc main_arg1)) (m ((c : Thread nD τ).loc main_arg2)) (m ((c : Thread nD τ).loc main_arg3)) i
          ⟨1024 * t.val + j.val, by have := point_lt t; omega⟩ := by
  unfold wt weight
  rw [iblk_w, iblk_s, iblk_z, nib_congr _ (show j.val % 2 = (1024 * t.val + j.val) % 2 by omega)]
  congr 4
  refine congrArg (ix2 _) (Fin.ext ?_)
  dsimp only
  omega

theorem term_eq_share (c : Dev nD) (t : Fin cfg0.N) (b : Fin 32) (j : Fin 1024) (i : ℕ) :
    term (iblk m c 0 t) (iblk m c 1 t) (iblk m c 2 t) (iblk m c 3 t) b j i
      = share (m ((c : Thread nD τ).loc main_arg0)) (m ((c : Thread nD τ).loc main_arg1)) (m ((c : Thread nD τ).loc main_arg2))
          (m ((c : Thread nD τ).loc main_arg3)) b ⟨1024 * t.val + j.val, by have := point_lt t; omega⟩ i := by
  unfold term share
  split
  · rw [iblk_x, wt_eq]
  · rfl

/-- What the point leaves at `y` of its output block. -/
theorem point (c : Dev nD) (t : Fin cfg0.N) (y : S32x1024.Idx) (j : S32x55296.Idx) (h0 : (j 0).val = (y 0).val)
    (h1 : (j 1).val = 1024 * t.val + (y 1).val) :
    outBlock (iblk m c 0 t) (iblk m c 1 t) (iblk m c 2 t) (iblk m c 3 t) y
      = product (m ((c : Thread nD τ).loc main_arg0)) (m ((c : Thread nD τ).loc main_arg1)) (m ((c : Thread nD τ).loc main_arg2))
          (m ((c : Thread nD τ).loc main_arg3)) j := by
  obtain ⟨b, l, rfl⟩ : ∃ b l, y = ix2 b l := ⟨y 0, y 1, eq_ix2 y⟩
  obtain ⟨b', l', rfl⟩ : ∃ b l, j = ix2 b l := ⟨j 0, j 1, eq_ix2 j⟩
  have ht := point_lt t
  have h1 : l'.val = 1024 * t.val + l.val := h1
  obtain rfl : b' = b := Fin.ext h0
  refine (outBlock_apply _ _ _ _ b' l).trans (Finset.sum_congr rfl fun i _ => ?_)
  refine (term_eq_share m c t b' l i).trans ?_
  exact congrArg (fun k => share _ _ _ _ b' k i) (Fin.ext h1.symm)

theorem final (c : Dev nD) : (dats m 0 c).arrAt 4 cfg0.N
    = product (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4, outsAt0_eq]
  refine point m c t y _ ?_ ?_
  all_goals (blk_simp [idx t] <;> try omega)

end Cert.KernelIdeal.Body

end
-- ==== Proof.RefValue.lean ====
/- The reference's result array: its two products, over the even and the odd features, add up to `product`. -/
module

public import proofs.«01_k».proof.Proof.Product
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Value

open Cert.ReferenceIdeal Cert.ReferenceIdeal.Gen Cert.Proof Idealize.ShloMosaic Idealize.ShloMosaic.TcCoe Idealize.SL.Sem

/-- A factor of each group and column, repeated over the 64 packed rows of the group. -/
def spread (v : FVec Ideal S40x55296 .bf16) : FVec Ideal S40x64x55296 .bf16 :=
  broadcastInDim S40x64x55296 ![0, 1, 2] bcast_S40x1x55296_S40x64x55296_0_1_2
    (broadcastInDim S40x1x55296 ![0, 2] bcast_S40x55296_S40x1x55296_0_2 v)

/-- The zero points. -/
def zeros (z : Vec Ideal S40x27648 .i8) : FVec Ideal S40x55296 .bf16 :=
  sitofp .bf16 (shapeCast S40x55296 (concatenate S40x27648x2 2
    [⟨S40x27648x1, (broadcastInDim S40x27648x1 ![0, 1] bcast_S40x27648_S40x27648x1_0_1 (andi (extui 32 z natLt_8_32) (broadcastInDim S40x27648 ![] bcast_S_S40x27648 (constantI S_ 32 15#32))))⟩,
     ⟨S40x27648x1, (broadcastInDim S40x27648x1 ![0, 1] bcast_S40x27648_S40x27648x1_0_1 (Host.shrsi (extui 32 z natLt_8_32) (broadcastInDim S40x27648 ![] bcast_S_S40x27648 (constantI S_ 32 4#32))))⟩]
    concatenates_S40x27648x1_S40x27648x1_S40x27648x2_d2) shapeCasts_S40x27648x2_S40x55296)

/-- The dequantized weights of the features whose codes are `q`. -/
def dequant (q : IVec S2560x55296 32) (s : Vec Ideal S40x55296 .bf16) (z : Vec Ideal S40x27648 .i8) : FVec Ideal S2560x55296 .bf16 :=
  shapeCast S2560x55296 (mulf (subf (shapeCast S40x64x55296 (sitofp .bf16 q) shapeCasts_S2560x55296_S40x64x55296) (spread (zeros z))) (spread s))
    shapeCasts_S40x64x55296_S2560x55296

/-- The codes in the low halves. -/
def low (w : Vec Ideal S2560x55296 .i8) : IVec S2560x55296 32 :=
  andi (extui 32 w natLt_8_32) (broadcastInDim S2560x55296 ![] bcast_S_S2560x55296 (constantI S_ 32 15#32))

/-- The codes in the high halves. -/
def high (w : Vec Ideal S2560x55296 .i8) : IVec S2560x55296 32 :=
  Host.shrsi (extui 32 w natLt_8_32) (broadcastInDim S2560x55296 ![] bcast_S_S2560x55296 (constantI S_ 32 4#32))

/-- The reference's result. -/
def result (x : FVec Ideal S32x1x5120 .bf16) (w : Vec Ideal S2560x55296 .i8) (s : Vec Ideal S40x55296 .bf16) (z : Vec Ideal S40x27648 .i8) :
    FVec Ideal S32x55296 .bf16 :=
  shapeCast S32x55296 (truncf .bf16 (addf
    (Host.dotGeneral dot_S32x1x2560_S2560x55296_S32x1x55296_2_0_01_1_n_n none (Host.slice S32x1x2560 ![0, 0, 0] ![1, 1, 2] x slicesBy_S32x1x5120_S32x1x2560_0s1_0s1_0s2) (dequant (low w) s z))
    (Host.dotGeneral dot_S32x1x2560_S2560x55296_S32x1x55296_2_0_01_1_n_n none (Host.slice S32x1x2560 ![0, 0, 1] ![1, 1, 2] x slicesBy_S32x1x5120_S32x1x2560_0s1_0s1_1s2) (dequant (high w) s z)))
    bitsLt_bf16_f32) shapeCasts_S32x1x55296_S32x55296

theorem zeros_apply (z : Vec Ideal S40x27648 .i8) (g : Fin 40) (c : Fin 55296) :
    zeros z (ix2 g c) = nib (z (ix2 g ⟨c.val / 2, by omega⟩)) c := by
  pointwise [zeros]
  unfold nib
  congr 1
  split
  · exact andi_eq_half _ _ (by omega)
  · exact shrsi_eq_half _ _ (by omega)

theorem low_apply (w : Vec Ideal S2560x55296 .i8) (i : Fin 2560) (c : Fin 55296) : low w (ix2 i c) = half (w (ix2 i c)) (2 * i.val) := by
  pointwise [low]
  exact andi_eq_half _ _ (by omega)

theorem high_apply (w : Vec Ideal S2560x55296 .i8) (i : Fin 2560) (c : Fin 55296) : high w (ix2 i c) = half (w (ix2 i c)) (2 * i.val + 1) := by
  pointwise [high]
  exact shrsi_eq_half _ _ (by omega)

theorem dequant_apply (q : IVec S2560x55296 32) (s : Vec Ideal S40x55296 .bf16) (z : Vec Ideal S40x27648 .i8) (i : Fin 2560) (c : Fin 55296) :
    dequant q s z (ix2 i c) = (FloatOps.sitofp (F := Ideal) .bf16 (q (ix2 i c)) - nib (z (ix2 ⟨i.val / 64, by omega⟩ ⟨c.val / 2, by omega⟩)) c)
      * s (ix2 ⟨i.val / 64, by omega⟩ c) := by
  pointwise [dequant, spread, zeros_apply]

/-- One summand of a product: packed row `k` at half `p` is feature `2 k + p`. -/
theorem summand_eq (x : Vec Ideal S32x1x5120 .bf16) (w : Vec Ideal S2560x55296 .i8) (s : Vec Ideal S40x55296 .bf16)
    (z : Vec Ideal S40x27648 .i8) (b : Fin 32) (c : Fin 55296) (k : Fin 2560) (p : ℕ) (hp : p < 2) (j : Fin 5120) (hj : j.val = 2 * k.val + p) :
    x (ix3 b 0 j) * ((FloatOps.sitofp (F := Ideal) .bf16 (half (w (ix2 k c)) (2 * k.val + p)) - nib (z (ix2 ⟨k.val / 64, by omega⟩ ⟨c.val / 2, by omega⟩)) c)
      * s (ix2 ⟨k.val / 64, by omega⟩ c)) = share x w s z b c (2 * k.val + p) := by
  have hb : 2 * k.val + p < 5120 := by omega
  obtain rfl : j = ⟨2 * k.val + p, hb⟩ := Fin.ext hj
  have e1 : (⟨(2 * k.val + p) / 2, by omega⟩ : Fin 2560) = k := Fin.ext (by dsimp only; omega)
  have e2 : (⟨(2 * k.val + p) / 128, by omega⟩ : Fin 40) = ⟨k.val / 64, by omega⟩ := Fin.ext (by dsimp only; omega)
  rw [share_eq x w s z b c _ hb]
  unfold weight nib
  simp only [e1, e2]

/-- The reference's result at an index. -/
theorem result_apply (x : Vec Ideal S32x1x5120 .bf16) (w : Vec Ideal S2560x55296 .i8) (s : Vec Ideal S40x55296 .bf16)
    (z : Vec Ideal S40x27648 .i8) (b : Fin 32) (c : Fin 55296) :
    result x w s z (ix2 b c) = ∑ i ∈ Finset.range 5120, share x w s z b c i := by
  pointwise [result, dequant_apply, low_apply, high_apply]
  refine Eq.trans ?_ (sum_even_odd _ 2560).symm
  rw [← Fin.sum_univ_eq_sum_range (fun i => share x w s z b c (2 * i)), ← Fin.sum_univ_eq_sum_range (fun i => share x w s z b c (2 * i + 1))]
  refine congrArg₂ (· + ·) (Finset.sum_congr rfl fun k _ => ?_) (Finset.sum_congr rfl fun k _ => ?_)
  · exact summand_eq x w s z b c k 0 (by omega) _ rfl
  · exact summand_eq x w s z b c k 1 (by omega) _ (by dsimp only; omega)

/-- The reference's result is `product` of its arguments. -/
theorem result_eq (x : Vec Ideal S32x1x5120 .bf16) (w : Vec Ideal S2560x55296 .i8) (s : Vec Ideal S40x55296 .bf16)
    (z : Vec Ideal S40x27648 .i8) : result x w s z = product x w s z := by
  funext j
  obtain ⟨b, c, rfl⟩ : ∃ b c, j = ix2 b c := ⟨j 0, j 1, eq_ix2 j⟩
  exact result_apply x w s z b c

end Cert.ReferenceIdeal.Value

end
-- ==== Proof.Algebraic.lean ====
/- The value claim: on exact numbers the idealized kernel and the reference leave the same result array. -/
module

public import proofs.«01_k».proof.Defs
public import proofs.«01_k».proof.Proof.ArrayValue
public import proofs.«01_k».proof.Proof.RefValue
public import Idealize.ShloMosaic.Lib.Claim

@[expose] public section

noncomputable section

open Idealize.ShloMosaic Idealize.SL.Sem

namespace Cert.Proof

/-- Both results are `product` of the arguments. -/
theorem algebraic : Cert.algebraic_KernelIdeal_ReferenceIdeal := by
  pair_intro
  · run_from Cert.KernelIdeal.Value.run_blocks m g
  · run_from Cert.ReferenceIdeal.Value.run m' g'
    refine (Cert.ReferenceIdeal.Value.result_eq _ _ _ (m' ((c.tc : Thread Cert.ReferenceIdeal.nD Cert.ReferenceIdeal.τ).loc Cert.ReferenceIdeal.main_arg3))).trans ?_
    rw [Cert.KernelIdeal.Body.final m c]
    exact congrArg (product _ _ _) (hagree c).2.2.2

end Cert.Proof

end
-- ==== Proof.lean ====
/- The proof of the five claims: the kernel, the idealized kernel and the reference run and leave their arguments as they
   were; the rewrites between the kernel and its idealization are instances of proved statements; on exact numbers the
   idealized kernel and the reference leave the same result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, frame_p, frame_pi, frame_ri, preserves, algebraic⟩

end Cert.Proof

end
